-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S32768x128 : Shape := ⟨2, ![32768, 128]⟩
abbrev S16 : Shape := ⟨1, ![16]⟩
abbrev S16x128x50 : Shape := ⟨3, ![16, 128, 50]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S16x128x50 : S_.BroadcastsInDim S16x128x50 (![] : Fin 0 → Fin S16x128x50.rank)
  reducesTo_S16x128x50_S_d0_1_2 : S16x128x50.ReducesTo [0, 1, 2] S_

variable [Facts]

def fn {F : FTy → Type} [FloatOps F] (main_arg0 : IVec S32768x128 32) (main_arg1 : FVec F S16 .f32) (main_arg2 : FVec F S16x128x50 .f32) : IVec S_ 1 :=
  let main_c : IVec S_ 32 := constantI S_ 32 0#32
  let main_v0 : IVec S32768x128 32 := broadcastInDim S32768x128 ![] bcast_S_S32768x128 main_c
  let main_v1 : IVec S32768x128 1 := cmpi .sge main_arg0 main_v0
  let main_c_0 : IVec S_ 32 := constantI S_ 32 50#32
  let main_v2 : IVec S32768x128 32 := broadcastInDim S32768x128 ![] bcast_S_S32768x128 main_c_0
  let main_v3 : IVec S32768x128 1 := cmpi .slt main_arg0 main_v2
  let main_v4 : IVec S32768x128 1 := andi main_v1 main_v3
  let main_c_1 : IVec S_ 1 := constantI S_ 1 1#1
  let main_v5 : IVec S_ 1 := (fun x v => Host.reduce IntOp.andi x v reducesTo_S32768x128_S_d0_1 h_S_) main_v4 main_c_1
  let main_cst : FVec F S_ .f32 := constant S_ .f32 0x7F800000#32
  let main_v6 : FVec F S16x128x50 .f32 := broadcastInDim S16x128x50 ![] bcast_S_S16x128x50 main_cst
  let main_v7 : IVec S16x128x50 1 := cmpf .olt main_arg2 main_v6
  let main_c_2 : IVec S_ 1 := constantI S_ 1 1#1
  let main_v8 : IVec S_ 1 := (fun x v => Host.reduce IntOp.andi x v reducesTo_S16x128x50_S_d0_1_2 h_S_) main_v7 main_c_2
  let main_v9 : IVec S_ 1 := andi main_v5 main_v8
  main_v9
-- ==== Kernel.lean ====
abbrev S32768x128 : Shape := ⟨2, ![32768, 128]⟩
abbrev S16 : Shape := ⟨1, ![16]⟩
abbrev S16x128x50 : Shape := ⟨3, ![16, 128, 50]⟩
abbrev S_ : Shape := ⟨0, ![]⟩
abbrev S16x128x56 : Shape := ⟨3, ![16, 128, 56]⟩
abbrev S16x1 : Shape := ⟨2, ![16, 1]⟩
abbrev S1x32768 : Shape := ⟨2, ![1, 32768]⟩
abbrev S4096x128 : Shape := ⟨2, ![4096, 128]⟩
abbrev S1x4096 : Shape := ⟨2, ![1, 4096]⟩
abbrev S16x7168 : Shape := ⟨2, ![16, 7168]⟩
abbrev S16x128 : Shape := ⟨2, ![16, 128]⟩
abbrev S16x128x1 : Shape := ⟨3, ![16, 128, 1]⟩
abbrev S1 : Shape := ⟨1, ![1]⟩
abbrev S1x1 : Shape := ⟨2, ![1, 1]⟩
abbrev S16x1x1 : Shape := ⟨3, ![16, 1, 1]⟩
abbrev S128x4096 : Shape := ⟨2, ![128, 4096]⟩
abbrev S128x1x4096 : Shape := ⟨3, ![128, 1, 4096]⟩
abbrev S128x56x4096 : Shape := ⟨3, ![128, 56, 4096]⟩
abbrev S7168x4096 : Shape := ⟨2, ![7168, 4096]⟩
abbrev S16x4096 : Shape := ⟨2, ![16, 4096]⟩
abbrev S4096 : Shape := ⟨1, ![4096]⟩
abbrev S32768 : Shape := ⟨1, ![32768]⟩

abbrev nBuf : Space → Nat
  | .hbm => 9
  | .vmem => 7
  | .smem => 0
  | _ => 0

abbrev bufTy : (tb : Table) → Fin (tcTables nBuf tb) → BufTy
  | .hbm, ⟨0, _⟩ => ⟨S32768x128, .i32⟩
  | .hbm, ⟨1, _⟩ => ⟨S16, .f32⟩
  | .hbm, ⟨2, _⟩ => ⟨S16x128x50, .f32⟩
  | .hbm, ⟨3, _⟩ => ⟨S_, .f32⟩
  | .hbm, ⟨4, _⟩ => ⟨S_, .f32⟩
  | .hbm, ⟨5, _⟩ => ⟨S16x128x56, .f32⟩
  | .hbm, ⟨6, _⟩ => ⟨S16x1, .f32⟩
  | .hbm, ⟨7, _⟩ => ⟨S1x32768, .f32⟩
  | .hbm, ⟨8, _⟩ => ⟨S32768, .f32⟩
  | .local _ .vmem, ⟨0, _⟩ => ⟨S16x128x56, .f32⟩
  | .local _ .vmem, ⟨1, _⟩ => ⟨S16x1, .f32⟩
  | .local _ .vmem, ⟨2, _⟩ => ⟨S4096x128, .i32⟩
  | .local _ .vmem, ⟨3, _⟩ => ⟨S4096x128, .i32⟩
  | .local _ .vmem, ⟨4, _⟩ => ⟨S1x4096, .f32⟩
  | .local _ .vmem, ⟨5, _⟩ => ⟨S1x4096, .f32⟩
  | .local _ .vmem, ⟨6, _⟩ => ⟨S16x7168, .f32⟩
  | _, _ => ⟨S32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x128x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S32768x128 : Shape := ⟨2, ![32768, 128]⟩
abbrev S16 : Shape := ⟨1, ![16]⟩
abbrev S16x128x50 : Shape := ⟨3, ![16, 128, 50]⟩
abbrev S_ : Shape := ⟨0, ![]⟩
abbrev S1 : Shape := ⟨1, ![1]⟩
abbrev S16x128 : Shape := ⟨2, ![16, 128]⟩
abbrev S16x128x1 : Shape := ⟨3, ![16, 128, 1]⟩
abbrev S16x1x128x50 : Shape := ⟨4, ![16, 1, 128, 50]⟩
abbrev S1x32768x128x1 : Shape := ⟨4, ![1, 32768, 128, 1]⟩
abbrev S32768x128x1x1 : Shape := ⟨4, ![32768, 128, 1, 1]⟩
abbrev S1x1x1x1 : Shape := ⟨4, ![1, 1, 1, 1]⟩
abbrev S32768x128x1 : Shape := ⟨3, ![32768, 128, 1]⟩
abbrev S16x32768x128x1 : Shape := ⟨4, ![16, 32768, 128, 1]⟩
abbrev S16x32768x128 : Shape := ⟨3, ![16, 32768, 128]⟩
abbrev S16x32768 : Shape := ⟨2, ![16, 32768]⟩
abbrev S16x1 : Shape := ⟨2, ![16, 1]⟩
abbrev S32768 : Shape := ⟨1, ![32768]⟩
abbrev S1x32768 : Shape := ⟨2, ![1, 32768]⟩

abbrev nBuf : Space → Nat
  | .hbm => 82
  | .vmem => 0
  | .smem => 0
  | _ => 0

abbrev bufTy : (tb : Table) → Fin (tcTables nBuf tb) → BufTy
  | .hbm, ⟨0, _⟩ => ⟨S32768x128, .i32⟩
  | .hbm, ⟨1, _⟩ => ⟨S16, .f32⟩
  | .hbm, ⟨2, _⟩ => ⟨S16x128x50, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S16x128x1, .f32⟩
  | .hbm, ⟨23, _⟩ => ⟨S16x128x50, .f32⟩
  | .hbm, ⟨24, _⟩ => ⟨S16x128x50, .f32⟩
  | .hbm, ⟨25, _⟩ => ⟨S16x128x50, .f32⟩
  | .hbm, ⟨26, _⟩ => ⟨S_, .f32⟩
  | .hbm, ⟨27, _⟩ => ⟨S16x128, .f32⟩
  | .hbm, ⟨28, _⟩ => ⟨S16x128x1, .f32⟩
  | .hbm, ⟨29, _⟩ => ⟨S16x128x1, .f32⟩
  | .hbm, ⟨30, _⟩ => ⟨S16x128x50, .f32⟩
  | .hbm, ⟨31, _⟩ => ⟨S16x128x50, .f32⟩
  | .hbm, ⟨32, _⟩ => ⟨S16x1x128x50, .f32⟩
  | .hbm, ⟨33, _⟩ => ⟨S1x32768x128x1, .i32⟩
  | .hbm, ⟨34, _⟩ => ⟨S_, .i32⟩
  | .hbm, ⟨35, _⟩ => ⟨S1x32768x128x1, .i32⟩
  | .hbm, ⟨36, _⟩ => ⟨S1x32768x128x1, .i1⟩
  | .hbm, ⟨37, _⟩ => ⟨S_, .i32⟩
  | .hbm, ⟨38, _⟩ => ⟨S1x32768x128x1, .i32⟩
  | .hbm, ⟨39, _⟩ => ⟨S1x32768x128x1, .i32⟩
  | .hbm, ⟨40, _⟩ => ⟨S1x32768x128x1, .i32⟩
  | .hbm, ⟨41, _⟩ => ⟨S32768x128x1x1, .i32⟩
  | .hbm, ⟨42, _⟩ => ⟨S16x128x50, .f32⟩
  | .hbm, ⟨43, _⟩ => ⟨S1, .i32⟩
  | .hbm, ⟨44, _⟩ => ⟨S_, .i32⟩
  | .hbm, ⟨45, _⟩ => ⟨S32768x128x1x1, .i32⟩
  | .hbm, ⟨46, _⟩ => ⟨S32768x128x1x1, .i1⟩
  | .hbm, ⟨47, _⟩ => ⟨S1x1x1x1, .i32⟩
  | .hbm, ⟨48, _⟩ => ⟨S32768x128x1x1, .i32⟩
  | .hbm, ⟨49, _⟩ => ⟨S32768x128x1x1, .i1⟩
  | .hbm, ⟨50, _⟩ => ⟨S32768x128x1x1, .i1⟩
  | .hbm, ⟨51, _⟩ => ⟨S_, .i1⟩
  | .hbm, ⟨52, _⟩ => ⟨S32768x128x1, .i1⟩
  | .hbm, ⟨53, _⟩ => ⟨S16x32768x128x1, .f32⟩
  | .hbm, ⟨54, _⟩ => ⟨S16x32768x128x1, .i1⟩
  | .hbm, ⟨55, _⟩ => ⟨S_, .f32⟩
  | .hbm, ⟨56, _⟩ => ⟨S16x32768x128x1, .f32⟩
  | .hbm, ⟨57, _⟩ => ⟨S16x32768x128x1, .f32⟩
  | .hbm, ⟨58, _⟩ => ⟨S16x32768x128, .f32⟩
  | .hbm, ⟨59, _⟩ => ⟨S_, .f32⟩
  | .hbm, ⟨60, _⟩ => ⟨S16x32768, .f32⟩
  | .hbm, ⟨61, _⟩ => ⟨S16x1, .f32⟩
  | .hbm, ⟨62, _⟩ => ⟨S16x32768, .f32⟩
  | .hbm, ⟨63, _⟩ => ⟨S16x32768, .f32⟩
  | .hbm, ⟨64, _⟩ => ⟨S_, .f32⟩
  | .hbm, ⟨65, _⟩ => ⟨S32768, .f32⟩
  | .hbm, ⟨66, _⟩ => ⟨S32768, .f32⟩
  | .hbm, ⟨67, _⟩ => ⟨S_, .f32⟩
  | .hbm, ⟨68, _⟩ => ⟨S32768, .f32⟩
  | .hbm, ⟨69, _⟩ => ⟨S32768, .i1⟩
  | .hbm, ⟨70, _⟩ => ⟨S_, .f32⟩
  | .hbm, ⟨71, _⟩ => ⟨S_, .f32⟩
  | .hbm, ⟨72, _⟩ => ⟨S32768, .f32⟩
  | .hbm, ⟨73, _⟩ => ⟨S32768, .f32⟩
  | .hbm, ⟨74, _⟩ => ⟨S1x32768, .f32⟩
  | .hbm, ⟨75, _⟩ => ⟨S16x32768, .f32⟩
  | .hbm, ⟨76, _⟩ => ⟨S16x32768, .f32⟩
  | .hbm, ⟨77, _⟩ => ⟨S16x32768, .f32⟩
  | .hbm, ⟨78, _⟩ => ⟨S_, .f32⟩
  | .hbm, ⟨79, _⟩ => ⟨S32768, .f32⟩
  | .hbm, ⟨80, _⟩ => ⟨S32768, .f32⟩
  | .hbm, ⟨81, _⟩ => ⟨S32768, .f32⟩
  | _, _ => ⟨S32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_v0 : Ref sig .tc := ⟨.hbm, 16, rfl⟩
abbrev main_call1_cst : Ref sig .tc := ⟨.hbm, 17, rfl⟩
abbrev main_call1_v0 : Ref sig .tc := ⟨.hbm, 18, rfl⟩
abbrev main_call1_cst_0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_cst_1 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_c_1 : Ref sig .tc := ⟨.hbm, 43, rfl⟩
abbrev main_call2_c_2 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_v12 : Ref sig .tc := ⟨.hbm, 50, rfl⟩
abbrev main_call2_c_3 : Ref sig .tc := ⟨.hbm, 51, rfl⟩
abbrev main_call2_v13 : Ref sig .tc := ⟨.hbm, 52, rfl⟩
abbrev main_call2_v14 : Ref sig .tc := ⟨.hbm, 53, rfl⟩
abbrev main_call2_v15 : Ref sig .tc := ⟨.hbm, 54, rfl⟩
abbrev main_call2_cst : Ref sig .tc := ⟨.hbm, 55, rfl⟩
abbrev main_call2_v16 : Ref sig .tc := ⟨.hbm, 56, rfl⟩
abbrev main_v4 : Ref sig .tc := ⟨.hbm, 57, rfl⟩
abbrev main_v5 : Ref sig .tc := ⟨.hbm, 58, rfl⟩
abbrev main_cst : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_cst_0 : Ref sig .tc := ⟨.hbm, 64, rfl⟩
abbrev main_v10 : Ref sig .tc := ⟨.hbm, 65, rfl⟩
abbrev main_v11 : Ref sig .tc := ⟨.hbm, 66, rfl⟩
abbrev main_cst_1 : Ref sig .tc := ⟨.hbm, 67, rfl⟩
abbrev main_v12 : Ref sig .tc := ⟨.hbm, 68, rfl⟩
abbrev main_v13 : Ref sig .tc := ⟨.hbm, 69, rfl⟩
abbrev main_cst_2 : Ref sig .tc := ⟨.hbm, 70, rfl⟩
abbrev main_call3_v0 : Ref sig .tc := ⟨.hbm, 71, rfl⟩
abbrev main_call3_v1 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_3 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩

abbrev nD : Nat := 1
abbrev τ : Topo := Topo.v7x

variable {F : FTy → Type} [FloatOps F]
-- ==== Proof.Rows.lean ====
/- Facts about one row of extended reals: its largest entry, its log-sum-exp, its log-softmax, and the same three for a
   row padded with `⊥`; a sum with one term per block; the sum of equal parts of a number. Nothing here speaks of a program. -/
module

public import Idealize.ShloMosaic.PureOps.Ideal.Laws

@[expose] public section

noncomputable section

namespace Cert.Mixture

open Idealize.ShloMosaic

variable {n : ℕ}

/-- The largest entry of a row, `⊥` for the empty row. -/
def rowTop (f : Fin n → EReal) : EReal := Finset.univ.sup f

/-- The sum of the exponentials of a row's entries, each taken relative to `a`. -/
def expSum (f : Fin n → EReal) (a : EReal) : EReal := ∑ k, Ideal.exp (f k - a)

/-- The log-sum-exp of a row, computed relative to its largest entry. -/
def rowLse (f : Fin n → EReal) : EReal := rowTop f + Ideal.log (expSum f (rowTop f))

/-- The log-softmax of a row at entry `i`, computed relative to its largest entry. -/
def rowSoft (f : Fin n → EReal) (i : Fin n) : EReal := f i - rowTop f - Ideal.log (expSum f (rowTop f))

/-- Every entry is at most the largest one. -/
theorem le_rowTop (f : Fin n → EReal) (i : Fin n) : f i ≤ rowTop f := Finset.le_sup (Finset.mem_univ i)

/-- A row of entries below `⊤` has its largest entry below `⊤`. -/
theorem rowTop_lt_top {f : Fin n → EReal} (h : ∀ i, f i < ⊤) : rowTop f < ⊤ :=
  (Finset.sup_lt_iff (by simp)).2 fun i _ => h i

/-- The left fold of `max` from `⊥` over all entries is the largest entry. -/
theorem fold_max_eq_rowTop (f : Fin n → EReal) : Finset.univ.fold max ⊥ f = rowTop f := rfl

/-- `⊥` less anything is `⊥`. -/
theorem bot_sub' (a : EReal) : (⊥ : EReal) - a = ⊥ := by rw [sub_eq_add_neg, EReal.bot_add]

/-- The exponential of a number below `⊤` is a nonnegative real number. -/
theorem exp_real {x : EReal} (h : x < ⊤) : ∃ r : ℝ, 0 ≤ r ∧ Ideal.exp x = (r : EReal) := by
  induction x with
  | bot => exact ⟨0, le_rfl, by simp⟩
  | coe r => exact ⟨Real.exp r, (Real.exp_pos r).le, by simp⟩
  | top => exact absurd h (lt_irrefl _)

/-- Relative to a real largest entry the sum of exponentials is a positive real number. -/
theorem expSum_real {f : Fin n → EReal} (h : ∀ i, f i < ⊤) {M : ℝ} (hM : rowTop f = (M : EReal)) :
    ∃ S : ℝ, 0 < S ∧ expSum f (rowTop f) = (S : EReal) := by
  have hlt : ∀ k, f k - (M : EReal) < ⊤ := fun k => by
    have := h k
    induction hk : f k with
    | bot => rw [bot_sub']; exact bot_lt_top
    | coe r => rw [← EReal.coe_sub]; exact EReal.coe_lt_top _
    | top => rw [hk] at this; exact absurd this (lt_irrefl _)
  choose g hg0 hg using fun k => exp_real (hlt k)
  have hne : (Finset.univ : Finset (Fin n)).Nonempty := by
    by_contra hc
    rw [Finset.not_nonempty_iff_eq_empty] at hc
    unfold rowTop at hM; rw [hc] at hM; simp at hM
  obtain ⟨i, -, hi⟩ := Finset.exists_mem_eq_sup Finset.univ hne f
  have hi' : f i = (M : EReal) := by rw [← hM]; exact hi.symm
  have hgi : g i = 1 := by
    have := hg i
    rw [hi', ← EReal.coe_sub, sub_self, Ideal.exp_coe, Real.exp_zero] at this
    exact_mod_cast this.symm
  refine ⟨∑ k, g k, ?_, ?_⟩
  · calc (0 : ℝ) < 1 := one_pos
      _ = g i := hgi.symm
      _ ≤ ∑ k, g k := Finset.single_le_sum (fun k _ => hg0 k) (Finset.mem_univ i)
  · unfold expSum
    rw [hM, Finset.sum_congr rfl fun k _ => hg k]
    induction (Finset.univ : Finset (Fin n)) using Finset.cons_induction with
    | empty => simp
    | cons a s ha ih => rw [Finset.sum_cons, Finset.sum_cons, ih, EReal.coe_add]

/-- A number below `⊤` is `⊥` or real. -/
theorem bot_or_real {x : EReal} (h : x < ⊤) : x = ⊥ ∨ ∃ r : ℝ, x = (r : EReal) := by
  induction x with
  | bot => exact .inl rfl
  | coe r => exact .inr ⟨r, rfl⟩
  | top => exact absurd h (lt_irrefl _)

/-- An entry less the row's log-sum-exp is the row's log-softmax there. -/
theorem sub_rowLse {f : Fin n → EReal} (h : ∀ i, f i < ⊤) (i : Fin n) : f i - rowLse f = rowSoft f i := by
  unfold rowLse rowSoft
  rcases bot_or_real (rowTop_lt_top h) with hb | ⟨M, hM⟩
  · have hi : f i = ⊥ := le_bot_iff.1 (hb ▸ le_rowTop f i)
    rw [hi, bot_sub', bot_sub', bot_sub']
  · rw [hM, sub_eq_add_neg, EReal.neg_add (.inl (EReal.coe_ne_bot M)) (.inl (EReal.coe_ne_top M)), sub_eq_add_neg,
      sub_eq_add_neg, sub_eq_add_neg, add_assoc]

/-- The log-softmax of a row that holds `⊤` is `⊥` everywhere. -/
theorem rowSoft_of_top {f : Fin n → EReal} (h : rowTop f = ⊤) (i : Fin n) : rowSoft f i = ⊥ := by
  unfold rowSoft
  rw [h, sub_eq_add_neg (f i), EReal.neg_top, EReal.add_bot, bot_sub']

/-- The log-sum-exp of a row that holds `⊤`, computed relative to its largest entry, is `⊥`. -/
theorem rowLse_of_top {f : Fin n → EReal} (h : rowTop f = ⊤) : rowLse f = ⊥ := by
  have he : expSum f ⊤ = 0 :=
    Finset.sum_eq_zero fun k _ => by rw [sub_eq_add_neg, EReal.neg_top, EReal.add_bot, Ideal.exp_bot]
  have hl : Ideal.log 0 = ⊥ := by rw [← EReal.coe_zero, Ideal.log_coe, if_pos le_rfl]
  unfold rowLse
  rw [h, he, hl, EReal.add_bot]

/-- The log-sum-exp of a row of infinite entries, computed relative to its largest entry, is `⊥`. -/
theorem rowLse_infinite {f : Fin n → EReal} (h : ∀ i, f i = ⊥ ∨ f i = ⊤) : rowLse f = ⊥ := by
  by_cases ht : ∃ i, f i = ⊤
  · obtain ⟨i, hi⟩ := ht
    exact rowLse_of_top (top_le_iff.1 (hi ▸ le_rowTop f i))
  · have hb : rowTop f = ⊥ := le_bot_iff.1 (Finset.sup_le fun i _ => ((h i).resolve_right fun e => ht ⟨i, e⟩).le)
    unfold rowLse
    rw [hb, EReal.bot_add]

/-- The log-softmax of a row is below `⊤`. -/
theorem rowSoft_lt_top (f : Fin n → EReal) (i : Fin n) : rowSoft f i < ⊤ := by
  by_cases ht : rowTop f < ⊤
  · unfold rowSoft
    rcases bot_or_real ((le_rowTop f i).trans_lt ht) with hi | ⟨r, hi⟩
    · rw [hi, bot_sub', bot_sub']; exact bot_lt_top
    · rcases bot_or_real ht with hb | ⟨M, hM⟩
      · have := le_rowTop f i
        rw [hb, hi] at this
        exact absurd (le_bot_iff.1 this) (EReal.coe_ne_bot r)
      · obtain ⟨S, hS, hSe⟩ := expSum_real (fun k => (le_rowTop f k).trans_lt ht) hM
        rw [hSe, hi, hM, Ideal.log_coe, if_neg (not_le.2 hS), ← EReal.coe_sub, ← EReal.coe_sub]
        exact EReal.coe_lt_top _
  · rw [rowSoft_of_top (not_lt_top_iff.1 ht)]; exact bot_lt_top

/-- The reference's guarded shift changes nothing: it is the largest entry when that is real, and where the largest
    entry is `⊥` both ways of writing the log-sum-exp give `⊥`. -/
theorem guarded_lse {f : Fin n → EReal} (h : ∀ i, f i < ⊤) {s : EReal} (hr : ∀ M : ℝ, rowTop f = (M : EReal) → s = M)
    (hb : rowTop f = ⊥ → s = 0) : s + Ideal.log (expSum f s) = rowLse f := by
  unfold rowLse
  rcases bot_or_real (rowTop_lt_top h) with hbot | ⟨M, hM⟩
  · have hi : ∀ i, f i = ⊥ := fun i => le_bot_iff.1 (hbot ▸ le_rowTop f i)
    have he : expSum f 0 = 0 := by
      unfold expSum
      exact Finset.sum_eq_zero fun k _ => by rw [hi, bot_sub', Ideal.exp_bot]
    have hl : Ideal.log 0 = ⊥ := by rw [← EReal.coe_zero, Ideal.log_coe, if_pos le_rfl]
    rw [hb hbot, he, hl, hbot, EReal.add_bot, EReal.bot_add]
  · rw [hr M hM, hM]

/-- A row padded by entries `⊥` has the largest entry of the row itself. -/
theorem rowTop_pad {m : ℕ} (hmn : n ≤ m) (f : Fin m → EReal) (hp : ∀ k : Fin m, n ≤ k.val → f k = ⊥) :
    rowTop f = rowTop fun k : Fin n => f (Fin.castLE hmn k) := by
  apply le_antisymm
  · refine Finset.sup_le fun k _ => ?_
    by_cases hk : k.val < n
    · exact le_rowTop (fun k : Fin n => f (Fin.castLE hmn k)) ⟨k.val, hk⟩
    · rw [hp k (not_lt.1 hk)]; exact bot_le
  · exact Finset.sup_le fun k _ => le_rowTop f _

/-- A row padded by entries `⊥` has the sum of exponentials of the row itself. -/
theorem expSum_pad {m : ℕ} (hmn : n ≤ m) (f : Fin m → EReal) (hp : ∀ k : Fin m, n ≤ k.val → f k = ⊥) (a : EReal) :
    expSum f a = expSum (fun k : Fin n => f (Fin.castLE hmn k)) a := by
  obtain ⟨d, rfl⟩ := Nat.exists_eq_add_of_le hmn
  unfold expSum
  rw [Fin.sum_univ_add]
  have hz : (∑ i : Fin d, Ideal.exp (f (Fin.natAdd n i) - a)) = 0 :=
    Finset.sum_eq_zero fun k _ => by rw [hp _ (by simp), bot_sub', Ideal.exp_bot]
  rw [hz, add_zero]
  rfl

/-- A row padded by entries `⊥` has the log-sum-exp of the row itself. -/
theorem rowLse_pad {m : ℕ} (hmn : n ≤ m) (f : Fin m → EReal) (hp : ∀ k : Fin m, n ≤ k.val → f k = ⊥) :
    rowLse f = rowLse fun k : Fin n => f (Fin.castLE hmn k) := by
  unfold rowLse
  rw [rowTop_pad hmn f hp, expSum_pad hmn f hp]

/-- A sum over `d` blocks of `c` entries, all of them zero but one in each block, is the sum of those. -/
theorem sum_one_per_block {d c : ℕ} (p : Fin (d * c) → EReal) (x : Fin d → Fin c)
    (h0 : ∀ j k, k ≠ x j → p (finProdFinEquiv (j, k)) = 0) :
    ∑ k, p k = ∑ j, p (finProdFinEquiv (j, x j)) := by
  rw [← finProdFinEquiv.sum_comp, Fintype.sum_prod_type]
  exact Finset.sum_congr rfl fun j _ =>
    Finset.sum_eq_single (x j) (fun k _ hk => h0 j k hk) fun h => absurd (Finset.mem_univ _) h

/-- A hundred and twenty-eight copies of the 128th part of a number sum to the number. -/
theorem nsmul_part (w : EReal) : (128 : ℕ) • (w * ((1 / 128 : ℝ) : EReal)) = w := by
  induction w with
  | bot => rw [EReal.bot_mul_coe_of_pos (by norm_num)]; rfl
  | coe r =>
    rw [← EReal.coe_mul, ← EReal.coe_nsmul]
    congr 1
    rw [nsmul_eq_mul]; push_cast; ring
  | top => rw [EReal.top_mul_coe_of_pos (by norm_num)]; rfl

/-- Spreading a number in equal parts over 128 summands adds it once to the sum. -/
theorem sum_add_part (a : Fin 128 → EReal) (w : EReal) :
    ∑ j, (a j + w * ((1 / 128 : ℝ) : EReal)) = (∑ j, a j) + w := by
  rw [Finset.sum_add_distrib, Finset.sum_const, Finset.card_univ, Fintype.card_fin, nsmul_part]

/-- A sum of numbers below `⊤` is below `⊤`. -/
theorem sum_lt_top {ι : Type} (s : Finset ι) (a : ι → EReal) (h : ∀ i ∈ s, a i < ⊤) : ∑ i ∈ s, a i < ⊤ := by
  induction s using Finset.cons_induction with
  | empty => simp
  | cons i s hi ih =>
    rw [Finset.sum_cons]
    exact EReal.add_lt_top (h i (Finset.mem_cons_self i s)).ne (ih fun k hk => h k (Finset.mem_cons_of_mem hk)).ne

/-- The mixture's log-likelihood of one sample: over the components, the log-sum-exp of the component's log weight plus the
    log probabilities it gives the sample's labels. -/
def mixLik (C : Fin 16 → Fin 128 → Fin 50 → EReal) (W : Fin 16 → EReal) (lab : Fin 128 → Fin 50) : EReal :=
  rowLse fun m => (∑ j, rowSoft (C m j) (lab j)) + rowSoft W m

/-- Where a weight is `⊤` the log-likelihood is `⊥`. -/
theorem mixLik_of_top (C : Fin 16 → Fin 128 → Fin 50 → EReal) {W : Fin 16 → EReal} (lab : Fin 128 → Fin 50) (h : rowTop W = ⊤) :
    mixLik C W lab = ⊥ :=
  rowLse_infinite fun m => .inl (by rw [rowSoft_of_top h, EReal.add_bot])

/-- Log weights written as a weight less the log-sum-exp of all give the log-likelihood too. A weight `⊤` makes these log
    weights infinite where the log-softmax is `⊥`, and the log-likelihood is `⊥` either way. -/
theorem mixLik_sub_rowLse (C : Fin 16 → Fin 128 → Fin 50 → EReal) (W : Fin 16 → EReal) (lab : Fin 128 → Fin 50) :
    (rowLse fun m => (∑ j, rowSoft (C m j) (lab j)) + (W m - rowLse W)) = mixLik C W lab := by
  by_cases ht : rowTop W < ⊤
  · unfold mixLik
    simp only [sub_rowLse fun k => (le_rowTop W k).trans_lt ht]
  · have hW := not_lt_top_iff.1 ht
    rw [mixLik_of_top C lab hW, rowLse_of_top hW]
    refine rowLse_infinite fun m => ?_
    have hs : (∑ j, rowSoft (C m j) (lab j)) < ⊤ := sum_lt_top _ _ fun j _ => rowSoft_lt_top _ _
    rw [sub_eq_add_neg (W m), EReal.neg_bot]
    rcases eq_or_ne (W m) ⊥ with hb | hb
    · exact .inl (by rw [hb, EReal.bot_add, EReal.add_bot])
    · rw [EReal.add_top_of_ne_bot hb]
      rcases bot_or_real hs with h0 | ⟨r, hr⟩
      · exact .inl (by rw [h0, EReal.bot_add])
      · exact .inr (by rw [hr, EReal.coe_add_top])

/-- The value of the f32 word of minus infinity. -/
theorem ofBits_neg_inf : Ideal.ofBits .f32 0xFF800000#32 = ⊥ := by simp [Ideal.ofBits, Ideal.ieee]

/-- The value of the f32 word of plus infinity. -/
theorem ofBits_pos_inf : Ideal.ofBits .f32 0x7F800000#32 = ⊤ := by simp [Ideal.ofBits, Ideal.ieee]

/-- The value of the f32 word of 128. -/
theorem ofBits_128 : Ideal.ofBits .f32 0x43000000#32 = ((128 : ℝ) : EReal) := by
  simp only [Ideal.ofBits, Ideal.ieee]
  simp
  rw [← EReal.coe_mul]; norm_num

end Cert.Mixture

end
-- ==== Proof.Table.lean ====
/- What the kernel's body computes at an index: the table of log probabilities that its first point stores, and the block of
   log-likelihoods that every point stores, as terms of the values loaded. -/
module

public import proofs.«01_k».proof.Proof.Rows
public import proofs.«01_k».proof.Proof.Gen.KernelIdeal.Skeleton
public import Idealize.ShloMosaic.Lib.Pointwise

@[expose] public section

noncomputable section

namespace Cert.Mixture

open Idealize.ShloMosaic Cert.KernelIdeal Cert.KernelIdeal.Gen

/-- The padded row of logits of component `m` at position `j`: the loaded logits in the first 50 lanes, `⊥` in the rest. -/
def padRow (c : Vec Ideal S16x128x56 .f32) (m : Fin 16) (j : Fin 128) (a : Fin 56) : EReal :=
  if a.val < 50 then c (ix3 m j a) else ⊥

/-- The lane comparison as a bit. -/
theorem lane_bit (a : Fin 56) : IntOp.cmpi .slt (BitVec.ofNat 32 a.val) 50#32 = if a.val < 50 then 1#1 else 0#1 := by
  decide +revert

/-- The masked select of a lane is the padded row. -/
theorem select_lane (c : Vec Ideal S16x128x56 .f32) (m : Fin 16) (j : Fin 128) (a : Fin 56) :
    Scalar.select (IntOp.cmpi .slt (BitVec.ofNat 32 a.val) 50#32) (c (ix3 m j a)) (Named.named (F := Ideal) (φ := .f32) κ "mask" 0xF149F2CA#32)
      = padRow c m j a := by
  rw [lane_bit]
  unfold padRow
  by_cases h : a.val < 50
  · rw [if_pos h, if_pos h]; rfl
  · rw [if_neg h, if_neg h]; rfl

/-- The table's entry: the log probability of the entry's category, plus the 128th part of the component's log weight. -/
def entry (c : Vec Ideal S16x128x56 .f32) (w : Vec Ideal S16x1 .f32) (m : Fin 16) (j : Fin 128) (a : Fin 56) : EReal :=
  (padRow c m j a - rowLse (padRow c m j))
    + Ideal.div (w (ix2 m 0) - rowLse fun m' : Fin 16 => w (ix2 m' 0)) ((128 : ℝ) : EReal)

/-- The stored table at component `m`, column `k`: the entry of position `k / 56` and category `k % 56`. -/
theorem table_apply (c : Vec Ideal S16x128x56 .f32) (w : Vec Ideal S16x1 .f32) (m : Fin 16) (k : Fin 7168) :
    k0_pay1 (F := Ideal) c w (ix2 m k)
      = entry c w m ⟨k.val / 56, by omega⟩ ⟨k.val % 56, Nat.mod_lt _ (by decide)⟩ := by
  pointwise [k0_pay1]
  have hs : ∀ a : Fin 56, Scalar.select (IntOp.cmpi .slt (BitVec.ofNat 32 a.val) 50#32)
      (c (ix3 m ⟨k.val / 56, by omega⟩ a)) (Named.named (F := Ideal) (φ := .f32) κ "mask" 0xF149F2CA#32)
        = padRow c m ⟨k.val / 56, by omega⟩ a := select_lane c m _
  simp only [hs, ofBits_neg_inf, ofBits_128]
  rw [hs ⟨k.val % 56, Nat.mod_lt _ (by decide)⟩]
  rfl

/-- The one-hot test of an in-range label against a category. -/
theorem onehot_bit (l : BitVec 32) (a : Fin 56) (h : l.toNat < 50) :
    IntOp.cmpi .eq l (BitVec.ofNat 32 a.val) = if a.val = l.toNat then 1#1 else 0#1 := by
  have he : (l = BitVec.ofNat 32 a.val) ↔ a.val = l.toNat := by
    rw [← BitVec.toNat_inj, BitVec.toNat_ofNat, Nat.mod_eq_of_lt (by have := a.isLt; omega)]
    exact eq_comm
  by_cases hh : a.val = l.toNat
  · rw [if_pos hh, he.2 hh]; simp [IntOp.cmpi]
  · rw [if_neg hh]
    show BitVec.ofBool (l == BitVec.ofNat 32 a.val) = 0#1
    rw [beq_eq_false_iff_ne.2 fun e => hh (he.1 e)]; rfl

/-- A sample's label at a position, as a category of the padded row. -/
def label (x : Vec Ideal S4096x128 .i32) (hx : ∀ b j, (x (ix2 b j)).toNat < 50) (b : Fin 4096) (j : Fin 128) : Fin 50 :=
  ⟨(x (ix2 b j)).toNat, hx b j⟩

/-- Contracting the table's row with a sample's one-hot columns sums the entries its labels name. -/
theorem pick_apply (x : Vec Ideal S4096x128 .i32) (hx : ∀ b j, (x (ix2 b j)).toNat < 50) (c : Vec Ideal S16x128x56 .f32)
    (w : Vec Ideal S16x1 .f32) (m : Fin 16) (b : Fin 4096) :
    (∑ k : Fin 7168, Scalar.select
        (IntOp.cmpi .eq (x (ix2 b ⟨k.val / 56, by omega⟩)) (BitVec.ofNat 32 (k.val % 56)))
        (k0_pay1 (F := Ideal) c w (ix2 m k)) 0 : EReal)
      = ∑ j : Fin 128, entry c w m j (Fin.castLE (by decide) (label x hx b j)) := by
  have hq : ∀ (j : Fin 128) (a : Fin 56), (a.val + 56 * j.val) / 56 = j.val := fun j a => by have := a.isLt; omega
  have hr : ∀ (j : Fin 128) (a : Fin 56), (a.val + 56 * j.val) % 56 = a.val := fun j a => by have := a.isLt; omega
  have hp : ∀ (j : Fin 128) (a : Fin 56), (fun k : Fin 7168 => Scalar.select
        (IntOp.cmpi .eq (x (ix2 b ⟨k.val / 56, by omega⟩)) (BitVec.ofNat 32 (k.val % 56)))
        (k0_pay1 (F := Ideal) c w (ix2 m k)) (0 : EReal)) (finProdFinEquiv (j, a))
      = if a.val = (x (ix2 b j)).toNat then entry c w m j a else 0 := fun j a => by
    dsimp only
    rw [table_apply]
    simp only [finProdFinEquiv_apply_val, hq, hr, Fin.eta]
    rw [onehot_bit _ a (hx b j)]
    split <;> rfl
  rw [sum_one_per_block (d := 128) (c := 56) _ (fun j => Fin.castLE (by decide) (label x hx b j))
    (fun j a ha => (hp j a).trans (if_neg fun h => ha (Fin.ext h)))]
  exact Finset.sum_congr rfl fun j _ => (hp j _).trans (if_pos rfl)

/-- The block a point stores, at sample `b`: the log-sum-exp over the components of the entries its labels name. -/
theorem block_apply (x : Vec Ideal S4096x128 .i32) (hx : ∀ b j, (x (ix2 b j)).toNat < 50) (c : Vec Ideal S16x128x56 .f32)
    (w : Vec Ideal S16x1 .f32) (u : Fin 1) (b : Fin 4096) :
    k0_pay2 (F := Ideal) x (k0_pay1 (F := Ideal) c w) (ix2 u b)
      = rowLse fun m : Fin 16 => ∑ j : Fin 128, entry c w m j (Fin.castLE (by decide) (label x hx b j)) := by
  generalize ht : k0_pay1 (F := Ideal) c w = t
  have hpick := fun m => pick_apply x hx c w m b
  rw [ht] at hpick
  pointwise [k0_pay2]
  simp only [hpick, ofBits_neg_inf]
  rfl

/-- The same as the mixture's log-likelihood, when every logit is below `⊤`. -/
theorem block_mixLik (x : Vec Ideal S4096x128 .i32) (hx : ∀ b j, (x (ix2 b j)).toNat < 50) (c : Vec Ideal S16x128x56 .f32)
    (w : Vec Ideal S16x1 .f32) (hc : ∀ (m : Fin 16) (j : Fin 128) (a : Fin 50), c (ix3 m j (Fin.castLE (by decide) a)) < ⊤)
    (u : Fin 1) (b : Fin 4096) :
    k0_pay2 (F := Ideal) x (k0_pay1 (F := Ideal) c w) (ix2 u b)
      = mixLik (fun m j a => c (ix3 m j (Fin.castLE (by decide) a))) (fun m => w (ix2 m 0)) (label x hx b) := by
  rw [block_apply x hx, ← mixLik_sub_rowLse]
  congr 1
  funext m
  have hpad : ∀ (j : Fin 128) (a : Fin 50), padRow c m j (Fin.castLE (by decide) a)
      = c (ix3 m j (Fin.castLE (by decide) a)) := fun j a => if_pos a.isLt
  have he : ∀ j : Fin 128, entry c w m j (Fin.castLE (by decide) (label x hx b j))
      = rowSoft (fun a : Fin 50 => c (ix3 m j (Fin.castLE (by decide) a))) (label x hx b j)
        + (w (ix2 m 0) - rowLse fun m : Fin 16 => w (ix2 m 0)) * ((1 / 128 : ℝ) : EReal) := fun j => by
    unfold entry
    rw [rowLse_pad (n := 50) (by decide) (padRow c m j) (fun k hk => if_neg (not_lt.2 hk))]
    simp only [hpad]
    rw [sub_rowLse (f := fun a : Fin 50 => c (ix3 m j (Fin.castLE (by decide) a))) (hc m j),
      Ideal.div_coe (by norm_num)]
  simp only [he]
  exact sum_add_part _ _

end Cert.Mixture

end
-- ==== Proof.Block.lean ====
/-
  What the kernel's two output-bearing buffers hold after each grid point. Point 0 builds the table from the logits and
  the mixture weights and stores it in the scratch array; every point reads the table there and writes its block of
  4096 samples. So after point `n` the scratch holds point 0's table and the output block is that table applied to
  point `n`'s block of labels.
-/
module

public import proofs.«01_k».proof.Proof.Table
public import proofs.«01_k».proof.Proof.Gen.KernelIdeal.Frame
public import Idealize.ShloMosaic.Lib.Pipeline.Value
public import Idealize.ShloMosaic.Lib.Tactic

@[expose] public section

noncomputable section

namespace Cert.Mixture

open Idealize.ShloMosaic Idealize.ShloMosaic.TcCoe Cert.KernelIdeal Cert.KernelIdeal.Gen
open Idealize.ShloMosaic.Pipeline (Dat)

variable {F : FTy → Type} [FloatOps F] [Named F]
variable (m : (ℓ : Loc nD τ sig) → Buf (Elt F) ℓ)

/-- The zero offsets of a two-axis access. -/
theorem zeros2 : (![0, 0] : Fin 2 → Nat) = fun _ => 0 := by decide
/-- The zero offsets of a three-axis access. -/
theorem zeros3 : (![0, 0, 0] : Fin 3 → Nat) = fun _ => 0 := by decide

section Cases
variable (c : Dev nD) (i : grid0.Coords)
  (a1 : Memref sig .tc .vmem S16x128x56 .f32) (h1 : a1.IsWhole) (a2 : Memref sig .tc .vmem S16x1 .f32) (h2 : a2.IsWhole)
  (a3 : Memref sig .tc .vmem S4096x128 .i32) (h3 : a3.IsWhole) (a4 : Memref sig .tc .vmem S1x4096 .f32) (h4 : a4.IsWhole)
  (a5 : Memref sig .tc .vmem S16x7168 .f32) (h5 : a5.IsWhole)
  (xc : Vec F S16x128x56 .f32) (xw : Vec F S16x1 .f32) (xx : Vec F S4096x128 .i32)

/-- At a later point the output block is the stored table applied to the point's labels. -/
theorem later_out (hc : ¬cond0_0 i) (xs : Vec F S16x7168 .f32) :
    out0_B_3 c i a1 h1 a2 h2 a3 h3 a4 h4 a5 h5 hc xc xw xx xs = k0_pay2 xx xs := by
  unfold out0_B_3
  rw [View.read_writes_eq_canon _ _ _ (cover0_B_3 c i a1 h1 a2 h2 a3 h3 a4 h4 a5 h5 hc xc xw xx xs)]
  unfold kernelRun0_B
  dsimp only
  rw [View.canon_unit_zero zeros2]
  simp only [View.readAt_eq_ld, h3.read_unread, h5.read_unread, View.ld_unit_zero (S := S4096x128) zeros2,
    View.ld_unit_zero (S := S16x7168) zeros2]

/-- At the first point the scratch array is left holding the table. -/
theorem first_scratch (hc : cond0_0 i) :
    sout0_A_0 c i a1 h1 a2 h2 a3 h3 a4 h4 a5 h5 hc xc xw xx = k0_pay1 xc xw := by
  unfold sout0_A_0
  rw [View.read_writes_eq_canon _ _ _ (scover0_A_0 c i a1 h1 a2 h2 a3 h3 a4 h4 a5 h5 hc xc xw xx)]
  unfold kernelRun0_A
  dsimp only
  sl_unfold_words
  rw [View.canon_unit_zero zeros2]
  simp only [View.readAt_eq_ld, h1.read_unread, h2.read_unread, View.ld_unit_zero (S := S16x128x56) zeros3,
    View.ld_unit_zero (S := S16x1) zeros2]

/-- At the first point the output block is the table just stored, applied to the point's labels. -/
theorem first_out (hc : cond0_0 i) :
    out0_A_3 c i a1 h1 a2 h2 a3 h3 a4 h4 a5 h5 hc xc xw xx = k0_pay2 xx (k0_pay1 xc xw) := by
  unfold out0_A_3
  rw [View.read_writes_eq_canon _ _ _ (cover0_A_3 c i a1 h1 a2 h2 a3 h3 a4 h4 a5 h5 hc xc xw xx)]
  unfold kernelRun0_A
  dsimp only
  sl_unfold_words
  rw [View.canon_unit_zero zeros2, View.readCov_unit_zero (S := S16x7168) _ zeros2]
  simp only [View.readAt_eq_ld, h1.read_unread, h2.read_unread, h3.read_unread, View.ld_unit_zero (S := S16x128x56) zeros3,
    View.ld_unit_zero (S := S16x1) zeros2, View.ld_unit_zero (S := S4096x128) zeros2]

end Cases

/-- The table point 0 builds. -/
def pointTable (c : Dev nD) : FVec F S16x7168 .f32 :=
  k0_pay1 (iblk m c 0 ⟨0, by rw [show cfg0.N = 8 from N_0]; decide⟩) (iblk m c 1 ⟨0, by rw [show cfg0.N = 8 from N_0]; decide⟩)

/-- After point `n`: the output block is point 0's table applied to point `n`'s labels, and the scratch holds the table. -/
theorem outs_eq (c : Dev nD) : ∀ (n : ℕ) (h : n < cfg0.N),
    outsAt0 m c n h = (k0_pay2 (iblk m c 2 ⟨n, h⟩) (pointTable m c), pointTable m c)
  | 0, h => by
    rw [outsAt0_A m c ⟨0, h⟩ rfl, first_out, first_scratch]
    rfl
  | n + 1, h => by
    have hN : cfg0.N = 8 := N_0
    have hB : ¬(⟨n + 1, h⟩ : Fin cfg0.N).val % 8 = 0 := by dsimp only; omega
    rw [outsAt0_B m c ⟨n + 1, h⟩ hB, later_out]
    show (k0_pay2 _ (outsAt0 m c n _).2, (outsAt0 m c n _).2) = _
    rw [outs_eq c n]

end Cert.Mixture

end

end
-- ==== Proof.Array.lean ====
/-
  The kernel's run, read. The host pads the logits and reshapes the weights before the grid; the grid's eight blocks of
  4096 samples tile the output row; the host reshapes that row to the result. So at each sample the result is the mixture's
  log-likelihood of the sample's labels, and the arguments end as they began.
-/
module

public import proofs.«01_k».proof.Proof.Block

@[expose] public section

noncomputable section

namespace Cert.Mixture

open Idealize.ShloMosaic Idealize.ShloMosaic.TcCoe Idealize.SL.Sem Cert.KernelIdeal Cert.KernelIdeal.Gen
open Idealize.ShloMosaic.Pipeline (Dat)

section AnyFloats
variable {F : FTy → Type} [FloatOps F] [Named F]
variable (m : (ℓ : Loc nD τ sig) → Buf (Elt F) ℓ)

/-- The grid region finds the padded logits in its first operand. -/
theorem padded_eq (c : Dev nD) : (V m c main_v0 : Vec F S16x128x56 .f32)
    = pad S16x128x56 ![0, 0, 0] ![0, 0, 6] ![0, 0, 0] (m ((c : Thread nD τ).loc main_arg2) : Vec F S16x128x50 .f32)
        (constant S_ .f32 0xF149F2CA#32) pads_S16x128x50_S16x128x56_000_000_060 h_S_ := by
  show StableHlo.after (List.flatten [hostOps0, hostOps0_1, hostOps0_2]) (fun b => m (c, b)) (Proc.devRef .tc main_v0) = _
  simp only [hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results
  rfl

/-- The grid region finds the mixture weights, as a column, in its second operand. -/
theorem column_eq (c : Dev nD) : (V m c main_v1 : Vec F S16x1 .f32)
    = shapeCast S16x1 (m ((c : Thread nD τ).loc main_arg1) : Vec F S16 .f32) shapeCasts_S16_S16x1 := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results
  rfl

/-- The padded array in one of its first 50 lanes is the array padded. -/
theorem pad_apply (v : Vec F S16x128x50 .f32) (z : Vec F S_ .f32) (k : Fin 16) (j : Fin 128) (a : Fin 50) :
    (pad S16x128x56 ![0, 0, 0] ![0, 0, 6] ![0, 0, 0] v z pads_S16x128x50_S16x128x56_000_000_060 h_S_ : Vec F S16x128x56 .f32)
      (ix3 k j (Fin.castLE (by decide) a)) = v (ix3 k j a) := by
  pointwise []
  rw [dif_pos (show (Fin.castLE (by decide : 50 ≤ 56) a).val < 50 from a.isLt)]
  rfl

/-- The padded logits' block index is 0 on every axis at every point. -/
theorem logits_index (t : Fin cfg0.N) : win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0) t

/-- The weights' block index is 0 on both axes at every point. -/
theorem weights_index (t : Fin cfg0.N) : win0_1.index t 0 = 0 ∧ win0_1.index t 1 = 0 :=
  (by decide +kernel : ∀ t : Fin grid0.N, win0_1.index t 0 = 0 ∧ win0_1.index t 1 = 0) t

/-- Every point's first block is all of the padded logits: its entry in one of the first 50 lanes is the argument's. -/
theorem logits_block (c : Dev nD) (t : Fin cfg0.N) (k : Fin 16) (j : Fin 128) (a : Fin 50) :
    (iblk m c 0 t : Vec F S16x128x56 .f32) (ix3 k j (Fin.castLE (by decide) a))
      = (m ((c : Thread nD τ).loc main_arg2) : Vec F S16x128x50 .f32) (ix3 k j a) := by
  have e : (iblk m c 0 t : Vec F S16x128x56 .f32) (ix3 k j (Fin.castLE (by decide) a))
      = (V m c main_v0 : Vec F S16x128x56 .f32) (ix3 k j (Fin.castLE (by decide) a)) := by
    unfold iblk
    rw [View.read_apply]
    show V m c main_v0 _ = _
    congr 1
    funext x
    apply Fin.ext
    obtain ⟨e0, e1, e2⟩ := logits_index t
    match x with
    | ⟨0, _⟩ => show win0_0.index t 0 * 16 + 1 * k.val = k.val; rw [e0]; omega
    | ⟨1, _⟩ => show win0_0.index t 1 * 128 + 1 * j.val = j.val; rw [e1]; omega
    | ⟨2, _⟩ => show win0_0.index t 2 * 56 + 1 * a.val = a.val; rw [e2]; omega
  rw [e, padded_eq]
  exact pad_apply _ _ k j a

/-- Every point's second block is all of the weights' column. -/
theorem weights_block (c : Dev nD) (t : Fin cfg0.N) (k : Fin 16) :
    (iblk m c 1 t : Vec F S16x1 .f32) (ix2 k 0) = (m ((c : Thread nD τ).loc main_arg1) : Vec F S16 .f32) (ix1 k) := by
  have e : (iblk m c 1 t : Vec F S16x1 .f32) (ix2 k 0) = (V m c main_v1 : Vec F S16x1 .f32) (ix2 k 0) := by
    unfold iblk
    rw [View.read_apply]
    show V m c main_v1 _ = _
    congr 1
    funext x
    apply Fin.ext
    obtain ⟨e0, e1⟩ := weights_index t
    match x with
    | ⟨0, _⟩ => show win0_1.index t 0 * 16 + 1 * k.val = k.val; rw [e0]; omega
    | ⟨1, _⟩ => show win0_1.index t 1 * 1 + 1 * 0 = 0; rw [e1]
  rw [e, column_eq]
  pointwise []

/-- The output row's block index at a point is the point. -/
theorem out_index (t : Fin cfg0.N) : win0_3.index t 0 = 0 ∧ win0_3.index t 1 = t.val :=
  (by decide +kernel : ∀ t : Fin grid0.N, win0_3.index t 0 = 0 ∧ win0_3.index t 1 = t.val) t

/-- The labels' block index at a point is the point. -/
theorem label_index (t : Fin cfg0.N) : win0_2.index t 0 = t.val ∧ win0_2.index t 1 = 0 :=
  (by decide +kernel : ∀ t : Fin grid0.N, win0_2.index t 0 = t.val ∧ win0_2.index t 1 = 0) t

/-- The point whose block holds a sample. -/
def pointOf (b : Fin 32768) : Fin cfg0.N := ⟨b.val / 4096, by rw [show cfg0.N = 8 from N_0]; have := b.isLt; omega⟩
/-- The sample's place in that block. -/
def placeOf (b : Fin 32768) : Fin 4096 := ⟨b.val % 4096, Nat.mod_lt _ (by decide)⟩

/-- The sample at a place of a point's block. -/
def sampleAt (t : Fin cfg0.N) (p : Fin 4096) : Fin 32768 :=
  ⟨t.val * 4096 + p.val, by have h : t.val < 8 := lt_of_lt_of_eq t.isLt N_0; have := p.isLt; omega⟩

/-- A sample is the one at its place of its point's block. -/
theorem sampleAt_point_place (b : Fin 32768) : sampleAt (pointOf b) (placeOf b) = b :=
  Fin.ext (by show b.val / 4096 * 4096 + b.val % 4096 = b.val; omega)

/-- A point's block of labels holds the labels of its 4096 samples. -/
theorem labels_block (c : Dev nD) (t : Fin cfg0.N) (p : Fin 4096) (j : Fin 128) :
    (iblk m c 2 t : Vec F S4096x128 .i32) (ix2 p j)
      = (m ((c : Thread nD τ).loc main_arg0) : Vec F S32768x128 .i32) (ix2 (sampleAt t p) j) := by
  unfold iblk
  rw [View.read_apply]
  show V m c main_arg0 _ = _
  rw [V_main_arg0]
  congr 1
  funext a
  apply Fin.ext
  match a with
  | ⟨0, _⟩ => show win0_2.index t 0 * 4096 + 1 * p.val = t.val * 4096 + p.val; rw [(label_index t).1]; omega
  | ⟨1, _⟩ => show win0_2.index t 1 * 128 + 1 * j.val = j.val; rw [(label_index t).2]; omega

/-- The output row: at a sample, what the sample's point wrote at the sample's place. -/
def outRow (c : Dev nD) : Buf (Elt F) ((c : Thread nD τ).loc main_v2) := fun i =>
  (k0_pay2 (iblk m c 2 (pointOf (i 1))) (pointTable m c) : Vec F S1x4096 .f32) (ix2 0 (placeOf (i 1)))

/-- What a point writes back is its block of the output row. -/
theorem written_eq (c : Dev nD) (t : Fin cfg0.N) :
    (dats m 0 c).flushed 3 t = ((cfg0.win 3).blk t).view.read (Elt F) (outRow m c) := by
  show (cfg0.win 3).cut (grid0.coords t) ((dats m 0 c).after 3 t) = _
  rw [after0_3, outs_eq]
  funext y
  have hy0 : (y 0).val < 1 := (y 0).isLt
  have hy1 : (y 1).val < 4096 := (y 1).isLt
  have hb : ((((cfg0.win 3).blk t).view.emb y) 1 : Fin 32768).val = t.val * 4096 + (y 1).val := by
    show win0_3.index t 1 * 4096 + 1 * (y 1).val = _
    rw [(out_index t).2]; omega
  have hp : pointOf ((((cfg0.win 3).blk t).view.emb y) 1) = t := Fin.ext (by
    show ((((cfg0.win 3).blk t).view.emb y) 1 : Fin 32768).val / 4096 = t.val
    rw [hb]; omega)
  have hl : (ix2 0 (placeOf ((((cfg0.win 3).blk t).view.emb y) 1)) : S1x4096.Idx) = (cfg0.win 3).xinj (grid0.coords t) y := by
    funext a
    apply Fin.ext
    match a with
    | ⟨0, _⟩ => show 0 = (y 0).val; omega
    | ⟨1, _⟩ =>
      show ((((cfg0.win 3).blk t).view.emb y) 1 : Fin 32768).val % 4096 = (y 1).val
      rw [hb]; omega
  show (k0_pay2 (iblk m c 2 t) (pointTable m c) : Vec F S1x4096 .f32) ((cfg0.win 3).xinj (grid0.coords t) y)
    = outRow m c (((cfg0.win 3).blk t).view.emb y)
  unfold outRow
  rw [hp, hl]

/-- The output array after the grid is the output row: the eight blocks cover it. -/
theorem row_eq (c : Dev nD) : (dats m 0 c).arrAt 3 cfg0.N = outRow m c :=
  (dats m 0 c).arrAt_eq_of_cover 3 _ (fun t _ => written_eq m c t) fun i =>
    ⟨pointOf (i 1), (by decide +kernel : ∀ t : Fin grid0.N, win0_3.flush t = true) _, by
      show i ∈ ((View.whole main_v2).slice (win0_3.rect (pointOf (i 1)))).set
      rw [View.set_slice_whole, Rect.mem_set_unit]
      have h0 : (i 0).val < 1 := (i 0).isLt
      have h1 : (i 1).val < 32768 := (i 1).isLt
      have e1 : win0_3.index (pointOf (i 1)) 1 = (i 1).val / 4096 := (out_index _).2
      intro a
      match a with
      | ⟨0, _⟩ =>
        show win0_3.index (pointOf (i 1)) 0 * 1 ≤ (i 0).val ∧ (i 0).val < win0_3.index (pointOf (i 1)) 0 * 1 + 1
        rw [(out_index _).1]; omega
      | ⟨1, _⟩ =>
        show win0_3.index (pointOf (i 1)) 1 * 4096 ≤ (i 1).val ∧ (i 1).val < win0_3.index (pointOf (i 1)) 1 * 4096 + 4096
        rw [e1]; omega⟩

/-- The result buffer after the last host line is the output row, reshaped. -/
theorem tail_eq (c : Dev nD) : (Pipeline.afterTail₀ cfgs (dats m) 0 (V0 m) [hostOps1] c main_v3 : Vec F S32768 .f32)
    = shapeCast S32768 (outRow m c : Vec F S1x32768 .f32) shapeCasts_S1x32768_S32768 := by
  have e : Pipeline.withArrays (cfgs 0).spec c (V0 m c) (fun w => (dats m 0 c).arrAt w (cfgs 0).N) (Proc.devRef .tc main_v2)
      = outRow m c :=
    (Pipeline.withArrays_arr (cfgs 0).spec (by decide) c (V0 m c) _ 3).trans (row_eq m c)
  unfold Pipeline.afterTail₀
  simp only [hostOps1, List.flatten_cons, List.flatten_nil, List.append_nil]
  after_results
  rw [← e]
  rfl

/-- The row reshaped to a vector, at a sample. -/
theorem row_apply (v : Vec F S1x32768 .f32) (b : Fin 32768) :
    (shapeCast S32768 v shapeCasts_S1x32768_S32768 : Vec F S32768 .f32) (ix1 b) = v (ix2 0 b) := by
  pointwise []

/-- The kernel runs; its result is the output row reshaped, and its arguments end as they began. -/
theorem kernel_run (ρ : Dev nD → PrngReg) :
    θ_run defs (onTc (τ := τ) (main (F := F))) ⟨m, fun _ => 0, ρ⟩ fun r => ∀ c : Dev nD,
      r.2.mem ((c : Thread nD τ).loc main_v3) = shapeCast S32768 (outRow m c : Vec F S1x32768 .f32) shapeCasts_S1x32768_S32768
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      ((h.1 c).2 main_v3 (Pipeline.mem_restRefs_of main_v3 (by decide) (by decide))).trans (tail_eq m c), h.2 c⟩)
    (θ_run_and (run_main m ρ) (unchanged m ρ))

end AnyFloats

end Cert.Mixture

end

end
-- ==== Proof.Reference.lean ====
/- What the reference computes at an index: its value cut into named stages (the two log-softmaxes, the labels made ready for the
   gather, the gathered log probabilities, their sums, the log-sum-exp over the components), and each stage read at an index. -/
module

public import proofs.«01_k».proof.Proof.Rows
public import proofs.«01_k».proof.Proof.Gen.ReferenceIdeal.Run
public import Idealize.ShloMosaic.Lib.Pointwise

@[expose] public section

noncomputable section

namespace Cert.Mixture

open Idealize.ShloMosaic Idealize.ShloMosaic.TcCoe Idealize.SL.Sem
open Cert.ReferenceIdeal Cert.ReferenceIdeal.Gen Cert.ReferenceIdeal.Value

/-- The weights less the largest one. -/
def wShift (w : FVec Ideal S16 .f32) : FVec Ideal S16 .f32 :=
  subf w (broadcastInDim S16 ![0] bcast_S1_S16_0 (broadcastInDim S1 ![] bcast_S_S1 (maximumf (constant S_ .f32 0xFF800000#32)
    (Host.reduce FloatOps.maximumf w (constant S_ .f32 0xFF800000#32) reducesTo_S16_S_d0 h_S_))))

/-- The log-softmax of the weights. -/
def wSoft (w : FVec Ideal S16 .f32) : FVec Ideal S16 .f32 :=
  subf (wShift w) (broadcastInDim S16 ![0] bcast_S1_S16_0 (Host.log (broadcastInDim S1 ![] bcast_S_S1
    (Host.reduceAdd (Host.exp (wShift w)) (constant S_ .f32 0x00000000#32) reducesTo_S16_S_d0 h_S_))))

/-- The logits, each less the largest of its row. -/
def cShift (c : FVec Ideal S16x128x50 .f32) : FVec Ideal S16x128x50 .f32 :=
  subf c (broadcastInDim S16x128x50 ![0, 1, 2] bcast_S16x128x1_S16x128x50_0_1_2
    (broadcastInDim S16x128x1 ![0, 1] bcast_S16x128_S16x128x1_0_1
      (maximumf (broadcastInDim S16x128 ![] bcast_S_S16x128 (constant S_ .f32 0xFF800000#32))
        (Host.reduce FloatOps.maximumf c (constant S_ .f32 0xFF800000#32) reducesTo_S16x128x50_S16x128_d2 h_S_))))

/-- The log-softmax of the logits along the categories. -/
def cSoft (c : FVec Ideal S16x128x50 .f32) : FVec Ideal S16x128x50 .f32 :=
  subf (cShift c) (broadcastInDim S16x128x50 ![0, 1, 2] bcast_S16x128x1_S16x128x50_0_1_2
    (Host.log (broadcastInDim S16x128x1 ![0, 1] bcast_S16x128_S16x128x1_0_1
      (Host.reduceAdd (Host.exp (cShift c)) (constant S_ .f32 0x00000000#32) reducesTo_S16x128x50_S16x128_d2 h_S_))))

/-- The labels as the gather's start indices, a negative label counted from the end of the categories. -/
def starts (x : IVec S32768x128 32) : IVec S32768x128x1x1 32 :=
  shapeCast _ (select (cmpi .slt (broadcastInDim S1x32768x128x1 ![1, 2] bcast_S32768x128_S1x32768x128x1_1_2 x)
      (broadcastInDim S1x32768x128x1 ![] bcast_S_S1x32768x128x1 (constantI S_ 32 0#32)))
    (addi (broadcastInDim S1x32768x128x1 ![1, 2] bcast_S32768x128_S1x32768x128x1_1_2 x)
      (broadcastInDim S1x32768x128x1 ![] bcast_S_S1x32768x128x1 (constantI S_ 32 50#32)))
    (broadcastInDim S1x32768x128x1 ![1, 2] bcast_S32768x128_S1x32768x128x1_1_2 x)) shapeCasts_S1x32768x128x1_S32768x128x1x1

/-- Whether each start index names a category. -/
def valid (i : IVec S32768x128x1x1 32) : IVec S32768x128x1 1 :=
  Host.reduce IntOp.andi
    (andi (cmpi .sge i (broadcastInDim S32768x128x1x1 ![] bcast_S_S32768x128x1x1 (constantI S_ 32 0#32)))
      (cmpi .sle i (broadcastInDim S32768x128x1x1 ![0, 1, 2, 3] bcast_S1x1x1x1_S32768x128x1x1_0_1_2_3
        (broadcastInDim S1x1x1x1 ![3] bcast_S1_S1x1x1x1_3 (constantI S1 32 49#32)))))
    (constantI S_ 1 1#1) reducesTo_S32768x128x1x1_S32768x128x1_d3 h_S_

/-- The log probabilities that the labels name, one per component, sample and position. -/
def taken (l : FVec Ideal S16x128x50 .f32) (i : IVec S32768x128x1x1 32) : FVec Ideal S16x32768x128x1 .f32 :=
  select (broadcastInDim S16x32768x128x1 ![1, 2, 3] bcast_S32768x128x1_S16x32768x128x1_1_2_3 (valid i))
    (Host.gather gather_S16x128x50_S32768x128x1x1_S16x32768x128x1_0_2_1_1_2_3_1611
      (shapeCast _ (broadcastInDim S16x1x128x50 ![0, 2, 3] bcast_S16x128x50_S16x1x128x50_0_2_3 l) shapeCasts_S16x1x128x50_S16x128x50) i)
    (broadcastInDim S16x32768x128x1 ![] bcast_S_S16x32768x128x1 (constant S_ .f32 0x7FC00000#32))

/-- The log-likelihood of every sample under every component. -/
def perComp (w : FVec Ideal S16 .f32) (g : FVec Ideal S16x32768x128x1 .f32) : FVec Ideal S16x32768 .f32 :=
  addf (Host.reduceAdd (shapeCast _ g shapeCasts_S16x32768x128x1_S16x32768x128) (constant S_ .f32 0x00000000#32)
      reducesTo_S16x32768x128_S16x32768_d2 h_S_)
    (broadcastInDim S16x32768 ![0, 1] bcast_S16x1_S16x32768_0_1 (broadcastInDim S16x1 ![0] bcast_S16_S16x1_0 (wSoft w)))

/-- The largest log-likelihood of every sample over the components. -/
def topComp (l : FVec Ideal S16x32768 .f32) : FVec Ideal S32768 .f32 :=
  Host.reduce FloatOps.maximumf l (constant S_ .f32 0xFF800000#32) reducesTo_S16x32768_S32768_d0 h_S_

/-- The shift of the reference's log-sum-exp: the largest log-likelihood where it is finite, else zero. -/
def shift (t : FVec Ideal S32768 .f32) : FVec Ideal S32768 .f32 :=
  select (cmpf .olt (Host.absf t) (broadcastInDim S32768 ![] bcast_S_S32768 (constant S_ .f32 0x7F800000#32))) t
    (broadcastInDim S32768 ![] bcast_S_S32768 (id (constant S_ .f32 0x00000000#32)))

/-- The log-sum-exp over the components relative to a shift. -/
def shiftedLse (l : FVec Ideal S16x32768 .f32) (s : FVec Ideal S32768 .f32) : FVec Ideal S32768 .f32 :=
  addf s (Host.log (Host.reduceAdd (Host.exp (subf l (broadcastInDim S16x32768 ![0, 1] bcast_S1x32768_S16x32768_0_1
    (broadcastInDim S1x32768 ![1] bcast_S32768_S1x32768_1 s)))) (constant S_ .f32 0x00000000#32)
    reducesTo_S16x32768_S32768_d0 h_S_))

set_option maxRecDepth 8192 in
/-- The reference's result is its stages composed. -/
theorem result_eq (m : (ℓ : Loc nD τ sig) → Buf (Elt Ideal) ℓ) (c : Dev nD) :
    res_out0 (F := Ideal) m c
      = (let l := perComp (m ((c.tc : Thread nD τ).loc main_arg1))
          (taken (cSoft (m ((c.tc : Thread nD τ).loc main_arg2))) (starts (m ((c.tc : Thread nD τ).loc main_arg0))))
         shiftedLse l (shift (topComp l))) := by
  unfold res_out0 res_main_v21
  rfl

/-- The weights' log-softmax at component `k`. -/
theorem wSoft_apply (w : FVec Ideal S16 .f32) (k : Fin 16) : wSoft w (ix1 k) = rowSoft (fun m : Fin 16 => w (ix1 m)) k := by
  pointwise [wSoft, wShift]
  simp only [ofBits_neg_inf, max_eq_right bot_le]
  rfl

/-- The logits' log-softmax at component `m`, position `j` and category `a`. -/
theorem cSoft_apply (c : FVec Ideal S16x128x50 .f32) (m : Fin 16) (j : Fin 128) (a : Fin 50) :
    cSoft c (ix3 m j a) = rowSoft (fun k : Fin 50 => c (ix3 m j k)) a := by
  pointwise [cSoft, cShift]
  simp only [ofBits_neg_inf, max_eq_right bot_le]
  rfl

/-- What the comparisons say of a category's word: it is not negative, it is at most 49, and read as a signed integer it is
    the category. -/
theorem word_facts (k : Fin 50) : IntOp.cmpi .slt (BitVec.ofNat 32 k.val) 0#32 = 0#1
    ∧ IntOp.cmpi .sge (BitVec.ofNat 32 k.val) 0#32 = 1#1 ∧ IntOp.cmpi .sle (BitVec.ofNat 32 k.val) 49#32 = 1#1
    ∧ (BitVec.ofNat 32 k.val).toInt.toNat = k.val := by
  decide +revert

/-- An in-range label is the word of its category. -/
theorem word_eq {l : BitVec 32} (h : l.toNat < 50) : l = BitVec.ofNat 32 (⟨l.toNat, h⟩ : Fin 50).val := by simp

/-- The start index of an in-range label is the label. -/
theorem starts_apply (x : IVec S32768x128 32) (b : Fin 32768) (j : Fin 128) (h : (x (ix2 b j)).toNat < 50) (u v : Fin 1) :
    starts x (ix4 b j u v) = x (ix2 b j) := by
  pointwise [starts]
  rw [word_eq h, (word_facts _).1]
  rfl

/-- The start index of an in-range label is valid. -/
theorem valid_apply (i : IVec S32768x128x1x1 32) (b : Fin 32768) (j : Fin 128) (h : (i (ix4 b j 0 0)).toNat < 50) (u : Fin 1) :
    valid i (ix3 b j u) = 1#1 := by
  obtain rfl : u = 0 := Subsingleton.elim _ _
  pointwise [valid]
  rw [Finset.univ_unique, Finset.fold_singleton]
  show IntOp.andi (IntOp.andi (IntOp.cmpi .sge (i (ix4 b j 0 0)) 0#32) (IntOp.cmpi .sle (i (ix4 b j 0 0)) 49#32)) 1#1 = 1#1
  rw [word_eq h, (word_facts _).2.1, (word_facts _).2.2.1]
  rfl

/-- The gather read at component `m`, sample `b`, position `j`: the operand at the category that the start index names,
    read signed and held within the categories. -/
theorem gather_at (l : FVec Ideal S16x128x50 .f32) (i : IVec S32768x128x1x1 32) (m : Fin 16) (b : Fin 32768) (j : Fin 128) :
    Host.gather gather_S16x128x50_S32768x128x1x1_S16x32768x128x1_0_2_1_1_2_3_1611 l i (ix4 m b j 0)
      = l (ix3 m j ⟨min (i (ix4 b j 0 0)).toInt.toNat 49, by omega⟩) := by
  unfold Host.gather
  congr 1
  funext a
  refine Fin.ext ?_
  show GatherDims.start _ _ i a + GatherDims.batchCoord _ _ a + GatherDims.offCoord _ _ a = _
  have h3 : ∀ a : Fin 3, a = 0 ∨ a = 1 ∨ a = 2 := by decide
  rcases h3 a with rfl | rfl | rfl
  · rw [GatherDims.batchCoord_eq_zero _ _ _ (by decide)]
    unfold GatherDims.start GatherDims.offCoord
    rw [dif_neg (by decide), dif_pos (by decide)]
    simp only [Nat.zero_add, Nat.add_zero]
    rfl
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.batchCoord_eq_zero _ _ _ (by decide), GatherDims.offCoord_eq_zero _ _ _ (by decide)]
    unfold GatherDims.start
    rw [dif_pos (by decide)]
    simp only [Nat.zero_add, Nat.add_zero]
    have hsi : ∀ q, GatherDims.siIdx gather_S16x128x50_S32768x128x1x1_S16x32768x128x1_0_2_1_1_2_3_1611 (ix4 m b j 0) q
        = ix4 b j 0 0 := fun q => by
      funext e
      refine Fin.ext ?_
      match e with
      | ⟨0, _⟩ => rfl
      | ⟨1, _⟩ => rfl
      | ⟨2, _⟩ => rfl
      | ⟨3, _⟩ => exact Nat.lt_one_iff.1 (Fin.isLt _)
    rw [hsi]
    rfl

/-- At an in-range label the gathered log probability is the one of the label's category. -/
theorem taken_apply (l : FVec Ideal S16x128x50 .f32) (x : IVec S32768x128 32) (m : Fin 16) (b : Fin 32768) (j : Fin 128)
    (h : (x (ix2 b j)).toNat < 50) : taken l (starts x) (ix4 m b j 0) = l (ix3 m j ⟨(x (ix2 b j)).toNat, h⟩) := by
  have hs := starts_apply x b j h 0 0
  have hv := valid_apply (starts x) b j (by rw [hs]; exact h) 0
  have hg := gather_at (shapeCast _ (broadcastInDim S16x1x128x50 ![0, 2, 3] bcast_S16x128x50_S16x1x128x50_0_2_3 l)
    shapeCasts_S16x1x128x50_S16x128x50) (starts x) m b j
  have hm : min (starts x (ix4 b j 0 0)).toInt.toNat 49 = (x (ix2 b j)).toNat := by
    rw [hs, word_eq h, (word_facts _).2.2.2]
    have : (⟨(x (ix2 b j)).toNat, h⟩ : Fin 50).val ≤ 49 := Nat.le_of_lt_succ h
    rw [Nat.min_eq_left this]
    simp
  simp only [hm] at hg
  have hg' : Host.gather gather_S16x128x50_S32768x128x1x1_S16x32768x128x1_0_2_1_1_2_3_1611
      (shapeCast _ (broadcastInDim S16x1x128x50 ![0, 2, 3] bcast_S16x128x50_S16x1x128x50_0_2_3 l)
        shapeCasts_S16x1x128x50_S16x128x50) (starts x) (ix4 m b j 0) = l (ix3 m j ⟨(x (ix2 b j)).toNat, h⟩) := by
    rw [hg]
    pointwise
  clear hg hm hs
  unfold taken
  generalize starts x = i at hv hg'
  generalize valid i = v at hv
  generalize Host.gather _ _ i = g at hg'
  pointwise
  rw [hv, hg']
  rfl

/-- The log-likelihood of sample `b` under component `m`. -/
theorem perComp_apply (w : FVec Ideal S16 .f32) (g : FVec Ideal S16x32768x128x1 .f32) (m : Fin 16) (b : Fin 32768) :
    perComp w g (ix2 m b) = (∑ j : Fin 128, g (ix4 m b j 0)) + wSoft w (ix1 m) := by
  unfold perComp
  generalize wSoft w = v
  pointwise

/-- The largest log-likelihood of sample `b`. -/
theorem topComp_apply (l : FVec Ideal S16x32768 .f32) (b : Fin 32768) :
    topComp l (ix1 b) = rowTop fun m : Fin 16 => l (ix2 m b) := by
  pointwise [topComp]
  rw [ofBits_neg_inf]
  rfl

/-- The shift at sample `b` is the largest log-likelihood when that is real, -/
theorem shift_real (t : FVec Ideal S32768 .f32) (b : Fin 32768) {M : ℝ} (h : t (ix1 b) = (M : EReal)) :
    shift t (ix1 b) = (M : EReal) := by
  have hlt : FloatOps.absf (F := Ideal) (φ := .f32) (M : EReal) < (⊤ : EReal) :=
    show max (M : EReal) (-(M : EReal)) < ⊤ from max_lt (EReal.coe_lt_top M) (by rw [← EReal.coe_neg]; exact EReal.coe_lt_top _)
  pointwise [shift]
  rw [h, ofBits_pos_inf, if_pos hlt]

/-- and zero when that is `⊥`. -/
theorem shift_bot (t : FVec Ideal S32768 .f32) (b : Fin 32768) (h : t (ix1 b) = ⊥) : shift t (ix1 b) = (0 : EReal) := by
  pointwise [shift]
  have htop : FloatOps.absf (F := Ideal) (φ := .f32) (⊥ : EReal) = (⊤ : EReal) := by
    show max (⊥ : EReal) (-⊥) = ⊤
    simp
  rw [h, ofBits_pos_inf, htop, if_neg (lt_irrefl _)]
  exact Ideal.ofBits_zero_f32

/-- The shifted log-sum-exp at sample `b`. -/
theorem shiftedLse_apply (l : FVec Ideal S16x32768 .f32) (s : FVec Ideal S32768 .f32) (b : Fin 32768) :
    shiftedLse l s (ix1 b) = s (ix1 b) + Ideal.log (expSum (fun m : Fin 16 => l (ix2 m b)) (s (ix1 b))) := by
  pointwise [shiftedLse]
  rfl

/-- A sample's label at a position, as a category. -/
def category (x : IVec S32768x128 32) (hx : ∀ b j, (x (ix2 b j)).toNat < 50) (b : Fin 32768) (j : Fin 128) : Fin 50 :=
  ⟨(x (ix2 b j)).toNat, hx b j⟩

/-- The reference's result at sample `b` is the mixture's log-likelihood, when every label is in range. -/
theorem result_mixLik (m : (ℓ : Loc nD τ sig) → Buf (Elt Ideal) ℓ) (d : Dev nD) (x : IVec S32768x128 32) (w : FVec Ideal S16 .f32)
    (c : FVec Ideal S16x128x50 .f32) (ex : m ((d.tc : Thread nD τ).loc main_arg0) = x)
    (ew : m ((d.tc : Thread nD τ).loc main_arg1) = w) (ec : m ((d.tc : Thread nD τ).loc main_arg2) = c)
    (hx : ∀ b j, (x (ix2 b j)).toNat < 50) (b : Fin 32768) :
    res_out0 (F := Ideal) m d (ix1 b)
      = mixLik (fun k j a => c (ix3 k j a)) (fun k => w (ix1 k)) (category x hx b) := by
  rw [result_eq, ex, ew, ec]
  dsimp only
  have hl : ∀ k : Fin 16, perComp w (taken (cSoft c) (starts x)) (ix2 k b)
      = (∑ j, rowSoft (fun a : Fin 50 => c (ix3 k j a)) (category x hx b j)) + rowSoft (fun k : Fin 16 => w (ix1 k)) k := fun k => by
    have ht : ∀ j : Fin 128, taken (cSoft c) (starts x) (ix4 k b j 0)
        = rowSoft (fun a : Fin 50 => c (ix3 k j a)) (category x hx b j) := fun j =>
      (taken_apply _ _ _ _ _ (hx b j)).trans (cSoft_apply c k j (category x hx b j))
    rw [perComp_apply, wSoft_apply]
    simp only [ht]
  generalize perComp w (taken (cSoft c) (starts x)) = l at hl
  have hlt : ∀ k : Fin 16, l (ix2 k b) < ⊤ := fun k => by
    rw [hl]
    exact EReal.add_lt_top (sum_lt_top _ _ fun j _ => rowSoft_lt_top _ _).ne (rowSoft_lt_top _ k).ne
  rw [shiftedLse_apply, guarded_lse (f := fun k : Fin 16 => l (ix2 k b)) hlt
    (fun M hM => shift_real _ b ((topComp_apply l b).trans hM)) (fun hb => shift_bot _ b ((topComp_apply l b).trans hb))]
  unfold mixLik
  exact congrArg rowLse (funext hl)

end Cert.Mixture

end
-- ==== Proof.Range.lean ====
/-
  What the precondition says of the arguments, read back from its one printed bit: every label is a word below 50, and
  no logit is `+∞`.
-/
module

public import proofs.«01_k».proof.Pre_in_range
public import proofs.«01_k».proof.Proof.Gen.Pre_in_range
public import proofs.«01_k».proof.Proof.Rows
public import Idealize.ShloMosaic.Lib.ReduceAll
public import Idealize.ShloMosaic.Lib.Affine
public import Idealize.ShloMosaic.Lib.Pointwise
public import Idealize.ShloMosaic.Lib.Tactic.WordOmega

@[expose] public section

namespace Cert.Mixture

open Idealize.ShloMosaic Cert.Pre_in_range Cert.Pre_in_range.Gen

/-- A word at least 0 and below 50 as a signed number is below 50 as a natural number. -/
theorem label_lt_of_bits (v : BitVec 32) (h : IntOp.andi (IntOp.cmpi .sge v 0#32) (IntOp.cmpi .slt v 50#32) = 1#1) :
    v.toNat < 50 := by
  obtain ⟨h0, h1⟩ := IntOp.andi_eq_one.1 h
  rw [IntOp.cmpi_sge] at h0
  rw [IntOp.cmpi_slt] at h1
  have hz : (0#32 : BitVec 32).toInt = 0 := by decide
  have h50 : (50#32 : BitVec 32).toInt = 50 := by decide
  rw [hz, BitVec.toInt_eq_toNat_cond] at h0
  rw [h50, BitVec.toInt_eq_toNat_cond] at h1
  have := v.isLt
  split at h0 <;> split at h1 <;> omega

/-- An extended real that compares below the f32 pattern of `+∞` is below `⊤`. -/
theorem lt_top_of_bit (v : EReal) (h : FloatOps.cmpf (F := Ideal) (φ := .f32) .olt v (FloatOps.ofBits .f32 0x7F800000#32) = 1#1) :
    v < ⊤ := by
  have e : (FloatOps.ofBits (F := Ideal) .f32 0x7F800000#32 : EReal) = ⊤ := ofBits_pos_inf
  rw [e] at h
  by_contra hv
  have h0 : FloatOps.cmpf (F := Ideal) (φ := .f32) .olt v (⊤ : EReal) = BitVec.ofBool (decide (v < (⊤ : EReal))) := rfl
  rw [h0, decide_eq_false hv] at h
  exact absurd h (by decide)

/-- The precondition's two conjuncts, element by element. -/
theorem pre_bits (x : IVec S32768x128 32) (w : FVec Ideal S16 .f32) (c : FVec Ideal S16x128x50 .f32)
    (h : Cert.Pre_in_range.fn (F := Ideal) x w c = fun _ => 1#1) :
    (∀ i, (x i).toNat < 50) ∧ (∀ i, c i < ⊤) := by
  have : Subsingleton S_.Idx := ⟨fun a b => funext fun k => k.elim0⟩
  have h1 := congrFun h (fun k => k.elim0)
  unfold Cert.Pre_in_range.fn at h1
  obtain ⟨hx, hc⟩ := IntOp.andi_eq_one.1 h1
  refine ⟨fun i => ?_, fun i => ?_⟩
  · exact label_lt_of_bits _ (Host.reduce_andi_all _ _ _ _ _ hx i)
  · exact lt_top_of_bit _ (Host.reduce_andi_all _ _ _ _ _ hc i)

end Cert.Mixture

end
-- ==== Proof.Equation.lean ====
/-
  The equation: on arguments in range, the kernel's result and the reference's result are the same array. At each sample
  both are the mixture's log-likelihood of the sample's labels.
-/
module

public import proofs.«01_k».proof.Proof.Array
public import proofs.«01_k».proof.Proof.Reference
public import proofs.«01_k».proof.Proof.Range

@[expose] public section

noncomputable section

namespace Cert.Mixture

open Idealize.ShloMosaic Idealize.ShloMosaic.TcCoe Idealize.SL.Sem Cert.KernelIdeal Cert.KernelIdeal.Gen

/-- The kernel's result buffer, as the run leaves it. -/
def kernelResult (m : (ℓ : Loc nD τ sig) → Buf (Elt Ideal) ℓ) (c : Dev nD) : Buf (Elt Ideal) ((c : Thread nD τ).loc main_v3) :=
  shapeCast S32768 (outRow m c : Vec Ideal S1x32768 .f32) shapeCasts_S1x32768_S32768

/-- The mixture's log-likelihood depends on the logits, the weights and the labels only through their values. -/
theorem mixLik_congr {C C' : Fin 16 → Fin 128 → Fin 50 → EReal} {W W' : Fin 16 → EReal} {lab lab' : Fin 128 → Fin 50}
    (hC : ∀ k j a, C k j a = C' k j a) (hW : ∀ k, W k = W' k) (hl : ∀ j, lab j = lab' j) : mixLik C W lab = mixLik C' W' lab' := by
  rw [show C = C' from funext fun k => funext fun j => funext fun a => hC k j a, show W = W' from funext hW,
    show lab = lab' from funext hl]

/-- The kernel's result at sample `b` is the mixture's log-likelihood of the sample's labels. -/
theorem kernel_mixLik (m : (ℓ : Loc nD τ sig) → Buf (Elt Ideal) ℓ) (d : Dev nD) (x : IVec S32768x128 32) (w : FVec Ideal S16 .f32)
    (c : FVec Ideal S16x128x50 .f32) (ex : m ((d : Thread nD τ).loc main_arg0) = x)
    (ew : m ((d : Thread nD τ).loc main_arg1) = w) (ec : m ((d : Thread nD τ).loc main_arg2) = c)
    (hx : ∀ b j, (x (ix2 b j)).toNat < 50) (hc : ∀ k j a, c (ix3 k j a) < ⊤) (b : Fin 32768) :
    (kernelResult m d : Vec Ideal S32768 .f32) (ix1 b)
      = mixLik (fun k j a => c (ix3 k j a)) (fun k => w (ix1 k)) (category x hx b) := by
  have hlab : ∀ (p : Fin 4096) (j : Fin 128), ((iblk m d 2 (pointOf b) : Vec Ideal S4096x128 .i32) (ix2 p j)).toNat < 50 :=
    fun p j => by rw [labels_block, ex]; exact hx _ _
  unfold kernelResult
  rw [row_apply]
  show (k0_pay2 (iblk m d 2 (pointOf b)) (pointTable m d) : Vec Ideal S1x4096 .f32) (ix2 0 (placeOf b)) = _
  unfold pointTable
  refine (block_mixLik (iblk m d 2 (pointOf b)) hlab _ _ (fun k j a => by rw [logits_block, ec]; exact hc k j a)
    0 (placeOf b)).trans ?_
  refine mixLik_congr (fun k j a => by rw [logits_block, ec]) (fun k => by rw [weights_block, ew]) fun j => ?_
  apply Fin.ext
  show ((iblk m d 2 (pointOf b) : Vec Ideal S4096x128 .i32) (ix2 (placeOf b) j)).toNat = (x (ix2 b j)).toNat
  rw [labels_block, ex, sampleAt_point_place]

/-- The two results are equal when the arguments agree and the precondition holds of them. -/
theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ) (d : Dev nD)
    (hpre : Cert.Pre_in_range.fn (F := Ideal) (m ((d : Thread nD τ).loc main_arg0)) (m ((d : Thread nD τ).loc main_arg1))
      (m ((d : Thread nD τ).loc main_arg2)) = fun _ => 1#1)
    (e0 : m' ((d.tc : Thread Cert.ReferenceIdeal.nD Cert.ReferenceIdeal.τ).loc Cert.ReferenceIdeal.main_arg0) = m ((d : Thread nD τ).loc main_arg0))
    (e1 : m' ((d.tc : Thread Cert.ReferenceIdeal.nD Cert.ReferenceIdeal.τ).loc Cert.ReferenceIdeal.main_arg1) = m ((d : Thread nD τ).loc main_arg1))
    (e2 : m' ((d.tc : Thread Cert.ReferenceIdeal.nD Cert.ReferenceIdeal.τ).loc Cert.ReferenceIdeal.main_arg2) = m ((d : Thread nD τ).loc main_arg2)) :
    Cert.ReferenceIdeal.Value.res_out0 (F := Ideal) m' d = kernelResult m d := by
  obtain ⟨hx, hc⟩ := pre_bits _ _ _ hpre
  have h : ∀ b : Fin 32768, Cert.ReferenceIdeal.Value.res_out0 (F := Ideal) m' d (ix1 b)
      = (kernelResult m d : Vec Ideal S32768 .f32) (ix1 b) := fun b =>
    (result_mixLik m' d _ _ _ e0 e1 e2 (fun b j => hx (ix2 b j)) b).trans
      (kernel_mixLik m d _ _ _ rfl rfl rfl (fun b j => hx (ix2 b j)) (fun k j a => hc (ix3 k j a)) b).symm
  exact funext fun (i : S32768.Idx) => by
    rw [eq_ix1 i]
    exact h (i 0)

end Cert.Mixture

end

end
-- ==== Proof.lean ====
/-
  The certificate, assembled: the kernel, its idealization and the reference each run, leave their arguments unchanged and
  end with every counter at zero; the idealization replaces one constant; and on arguments in range the idealized kernel's
  result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The reference runs, its arguments end as they began, and every counter ends at zero: it has no counters. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On arguments in range the idealized kernel and the reference both run and end with equal results. -/
theorem equal_results : Cert.algebraic_KernelIdeal_ReferenceIdeal_pre_in_range := by
  intro m ρ m' ρ' hpre hagree
  refine ⟨fun c => Cert.Mixture.kernelResult m c, Cert.Mixture.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2⟩ := hagree c
  exact Cert.Mixture.results_eq m m' c (hpre c) e0 e1 e2

/-- Every claim of the certificate. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    IdealRules.named_const.statement _ _ _ _ _ rfl, equal_results⟩

end Cert.Proof

end
